-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x5120 : Shape := ⟨3, ![1, 1024, 5120]⟩
abbrev S2560x8960 : Shape := ⟨2, ![2560, 8960]⟩
abbrev S80x8960 : Shape := ⟨2, ![80, 8960]⟩
abbrev S5120x16 : Shape := ⟨2, ![5120, 16]⟩
abbrev S16x8960 : Shape := ⟨2, ![16, 8960]⟩
abbrev S1024x5120 : Shape := ⟨2, ![1024, 5120]⟩
abbrev S1024x8960 : Shape := ⟨2, ![1024, 8960]⟩
abbrev S2560x256 : Shape := ⟨2, ![2560, 256]⟩
abbrev S80x256 : Shape := ⟨2, ![80, 256]⟩
abbrev S16x256 : Shape := ⟨2, ![16, 256]⟩
abbrev S1024x256 : Shape := ⟨2, ![1024, 256]⟩
abbrev S1024x16 : Shape := ⟨2, ![1024, 16]⟩
abbrev S40x256 : Shape := ⟨2, ![40, 256]⟩
abbrev S40x64x256 : Shape := ⟨3, ![40, 64, 256]⟩
abbrev S40x1x256 : Shape := ⟨3, ![40, 1, 256]⟩
abbrev S1024x2560 : Shape := ⟨2, ![1024, 2560]⟩
abbrev S1x1024x8960 : Shape := ⟨3, ![1, 1024, 8960]⟩

abbrev nBuf : Space → Nat
  | .hbm => 8
  | .vmem => 11
  | .smem => 0
  | _ => 0

abbrev bufTy : (tb : Table) → Fin (tcTables nBuf tb) → BufTy
  | .hbm, ⟨0, _⟩ => ⟨S1x1024x5120, .bf16⟩
  | .hbm, ⟨1, _⟩ => ⟨S2560x8960, .i8⟩
  | .hbm, ⟨2, _⟩ => ⟨S80x8960, .f32⟩
  | .hbm, ⟨3, _⟩ => ⟨S5120x16, .bf16⟩
  | .hbm, ⟨4, _⟩ => ⟨S16x8960, .bf16⟩
  | .hbm, ⟨5, _⟩ => ⟨S1024x5120, .bf16⟩
  | .hbm, ⟨6, _⟩ => ⟨S1024x8960, .bf16⟩
  | .hbm, ⟨7, _⟩ => ⟨S1x1024x8960, .bf16⟩
  | .local _ .vmem, ⟨0, _⟩ => ⟨S1024x5120, .bf16⟩
  | .local _ .vmem, ⟨1, _⟩ => ⟨S2560x256, .i8⟩
  | .local _ .vmem, ⟨2, _⟩ => ⟨S2560x256, .i8⟩
  | .local _ .vmem, ⟨3, _⟩ => ⟨S80x256, .f32⟩
  | .local _ .vmem, ⟨4, _⟩ => ⟨S80x256, .f32⟩
  | .local _ .vmem, ⟨5, _⟩ => ⟨S5120x16, .bf16⟩
  | .local _ .vmem, ⟨6, _⟩ => ⟨S16x256, .bf16⟩
  | .local _ .vmem, ⟨7, _⟩ => ⟨S16x256, .bf16⟩
  | .local _ .vmem, ⟨8, _⟩ => ⟨S1024x256, .bf16⟩
  | .local _ .vmem, ⟨9, _⟩ => ⟨S1024x256, .bf16⟩
  | .local _ .vmem, ⟨10, _⟩ => ⟨S1024x16, .bf16⟩
  | _, _ => ⟨S1x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x1024x5120 : Shape := ⟨3, ![1, 1024, 5120]⟩
abbrev S2560x8960 : Shape := ⟨2, ![2560, 8960]⟩
abbrev S80x8960 : Shape := ⟨2, ![80, 8960]⟩
abbrev S5120x16 : Shape := ⟨2, ![5120, 16]⟩
abbrev S16x8960 : Shape := ⟨2, ![16, 8960]⟩
abbrev S16 : Shape := ⟨1, ![16]⟩
abbrev S2x40x8960 : Shape := ⟨3, ![2, 40, 8960]⟩
abbrev S_ : Shape := ⟨0, ![]⟩
abbrev S1x40x8960 : Shape := ⟨3, ![1, 40, 8960]⟩
abbrev S40x8960 : Shape := ⟨2, ![40, 8960]⟩
abbrev S1 : Shape := ⟨1, ![1]⟩
abbrev S40x64x8960 : Shape := ⟨3, ![40, 64, 8960]⟩
abbrev S40x1x8960 : Shape := ⟨3, ![40, 1, 8960]⟩
abbrev S1x1024x2560 : Shape := ⟨3, ![1, 1024, 2560]⟩
abbrev S1x1024x8960 : Shape := ⟨3, ![1, 1024, 8960]⟩
abbrev S1x1024x16 : Shape := ⟨3, ![1, 1024, 16]⟩

abbrev nBuf : Space → Nat
  | .hbm => 217
  | .vmem => 0
  | .smem => 0
  | _ => 0

abbrev hbmTy0_0 (i : Nat) : BufTy := match i % 128 with
  | 0 => ⟨S1x1024x5120, .bf16⟩
  | 1 => ⟨S2560x8960, .i8⟩
  | 2 => ⟨S80x8960, .f32⟩
  | 3 => ⟨S5120x16, .bf16⟩
  | 4 => ⟨S16x8960, .bf16⟩
  | 5 => ⟨S16, .bf16⟩
  | 6 => ⟨S16, .bf16⟩
  | 7 => ⟨S80x8960, .bf16⟩
  | 8 => ⟨S2x40x8960, .bf16⟩
  | 9 => ⟨S2560x8960, .i32⟩
  | 10 => ⟨S_, .i32⟩
  | 11 => ⟨S2560x8960, .i32⟩
  | 12 => ⟨S2560x8960, .i32⟩
  | 13 => ⟨S_, .i32⟩
  | 14 => ⟨S2560x8960, .i32⟩
  | 15 => ⟨S2560x8960, .i32⟩
  | 16 => ⟨S1x40x8960, .bf16⟩
  | 17 => ⟨S40x8960, .bf16⟩
  | 18 => ⟨S1, .bf16⟩
  | 19 => ⟨S_, .bf16⟩
  | 20 => ⟨S1, .bf16⟩
  | 21 => ⟨S_, .bf16⟩
  | 22 => ⟨S1, .bf16⟩
  | 23 => ⟨S_, .bf16⟩
  | 24 => ⟨S1, .bf16⟩
  | 25 => ⟨S_, .bf16⟩
  | 26 => ⟨S1, .bf16⟩
  | 27 => ⟨S_, .bf16⟩
  | 28 => ⟨S1, .bf16⟩
  | 29 => ⟨S_, .bf16⟩
  | 30 => ⟨S1, .bf16⟩
  | 31 => ⟨S_, .bf16⟩
  | 32 => ⟨S1, .bf16⟩
  | 33 => ⟨S_, .bf16⟩
  | 34 => ⟨S1, .bf16⟩
  | 35 => ⟨S_, .bf16⟩
  | 36 => ⟨S1, .bf16⟩
  | 37 => ⟨S_, .bf16⟩
  | 38 => ⟨S1, .bf16⟩
  | 39 => ⟨S_, .bf16⟩
  | 40 => ⟨S1, .bf16⟩
  | 41 => ⟨S_, .bf16⟩
  | 42 => ⟨S1, .bf16⟩
  | 43 => ⟨S_, .bf16⟩
  | 44 => ⟨S1, .bf16⟩
  | 45 => ⟨S_, .bf16⟩
  | 46 => ⟨S1, .bf16⟩
  | 47 => ⟨S_, .bf16⟩
  | 48 => ⟨S1, .bf16⟩
  | 49 => ⟨S_, .bf16⟩
  | 50 => ⟨S_, .i32⟩
  | 51 => ⟨S2560x8960, .i32⟩
  | 52 => ⟨S2560x8960, .i32⟩
  | 53 => ⟨S_, .i32⟩
  | 54 => ⟨S2560x8960, .i32⟩
  | 55 => ⟨S2560x8960, .i1⟩
  | 56 => ⟨S2560x8960, .bf16⟩
  | 57 => ⟨S2560x8960, .bf16⟩
  | 58 => ⟨S2560x8960, .bf16⟩
  | 59 => ⟨S2560x8960, .bf16⟩
  | 60 => ⟨S2560x8960, .bf16⟩
  | 61 => ⟨S2560x8960, .bf16⟩
  | 62 => ⟨S2560x8960, .bf16⟩
  | 63 => ⟨S2560x8960, .bf16⟩
  | 64 => ⟨S2560x8960, .bf16⟩
  | 65 => ⟨S2560x8960, .bf16⟩
  | 66 => ⟨S2560x8960, .bf16⟩
  | 67 => ⟨S2560x8960, .bf16⟩
  | 68 => ⟨S2560x8960, .bf16⟩
  | 69 => ⟨S2560x8960, .bf16⟩
  | 70 => ⟨S2560x8960, .bf16⟩
  | 71 => ⟨S2560x8960, .bf16⟩
  | 72 => ⟨S2560x8960, .bf16⟩
  | 73 => ⟨S2560x8960, .bf16⟩
  | 74 => ⟨S2560x8960, .bf16⟩
  | 75 => ⟨S2560x8960, .bf16⟩
  | 76 => ⟨S2560x8960, .bf16⟩
  | 77 => ⟨S2560x8960, .bf16⟩
  | 78 => ⟨S2560x8960, .bf16⟩
  | 79 => ⟨S2560x8960, .bf16⟩
  | 80 => ⟨S_, .i32⟩
  | 81 => ⟨S2560x8960, .i32⟩
  | 82 => ⟨S2560x8960, .i32⟩
  | 83 => ⟨S_, .i32⟩
  | 84 => ⟨S2560x8960, .i32⟩
  | 85 => ⟨S2560x8960, .i1⟩
  | 86 => ⟨S2560x8960, .bf16⟩
  | 87 => ⟨S2560x8960, .bf16⟩
  | 88 => ⟨S2560x8960, .bf16⟩
  | 89 => ⟨S2560x8960, .bf16⟩
  | 90 => ⟨S_, .i32⟩
  | 91 => ⟨S2560x8960, .i32⟩
  | 92 => ⟨S2560x8960, .i32⟩
  | 93 => ⟨S_, .i32⟩
  | 94 => ⟨S2560x8960, .i32⟩
  | 95 => ⟨S2560x8960, .i1⟩
  | 96 => ⟨S2560x8960, .bf16⟩
  | 97 => ⟨S2560x8960, .bf16⟩
  | 98 => ⟨S_, .i32⟩
  | 99 => ⟨S2560x8960, .i32⟩
  | 100 => ⟨S2560x8960, .i32⟩
  | 101 => ⟨S_, .i32⟩
  | 102 => ⟨S2560x8960, .i32⟩
  | 103 => ⟨S2560x8960, .i1⟩
  | 104 => ⟨S2560x8960, .bf16⟩
  | 105 => ⟨S40x64x8960, .bf16⟩
  | 106 => ⟨S40x1x8960, .bf16⟩
  | 107 => ⟨S40x64x8960, .bf16⟩
  | 108 => ⟨S40x64x8960, .bf16⟩
  | 109 => ⟨S2560x8960, .bf16⟩
  | 110 => ⟨S1x40x8960, .bf16⟩
  | 111 => ⟨S40x8960, .bf16⟩
  | 112 => ⟨S1, .bf16⟩
  | 113 => ⟨S_, .bf16⟩
  | 114 => ⟨S1, .bf16⟩
  | 115 => ⟨S_, .bf16⟩
  | 116 => ⟨S1, .bf16⟩
  | 117 => ⟨S_, .bf16⟩
  | 118 => ⟨S1, .bf16⟩
  | 119 => ⟨S_, .bf16⟩
  | 120 => ⟨S1, .bf16⟩
  | 121 => ⟨S_, .bf16⟩
  | 122 => ⟨S1, .bf16⟩
  | 123 => ⟨S_, .bf16⟩
  | 124 => ⟨S1, .bf16⟩
  | 125 => ⟨S_, .bf16⟩
  | 126 => ⟨S1, .bf16⟩
  | 127 => ⟨S_, .bf16⟩
  | _ => ⟨S1x1024x5120, .bf16⟩

abbrev hbmTy0_1 (i : Nat) : BufTy := match i % 128 with
  | 0 => ⟨S1, .bf16⟩
  | 1 => ⟨S_, .bf16⟩
  | 2 => ⟨S1, .bf16⟩
  | 3 => ⟨S_, .bf16⟩
  | 4 => ⟨S1, .bf16⟩
  | 5 => ⟨S_, .bf16⟩
  | 6 => ⟨S1, .bf16⟩
  | 7 => ⟨S_, .bf16⟩
  | 8 => ⟨S1, .bf16⟩
  | 9 => ⟨S_, .bf16⟩
  | 10 => ⟨S1, .bf16⟩
  | 11 => ⟨S_, .bf16⟩
  | 12 => ⟨S1, .bf16⟩
  | 13 => ⟨S_, .bf16⟩
  | 14 => ⟨S1, .bf16⟩
  | 15 => ⟨S_, .bf16⟩
  | 16 => ⟨S_, .i32⟩
  | 17 => ⟨S2560x8960, .i32⟩
  | 18 => ⟨S2560x8960, .i32⟩
  | 19 => ⟨S_, .i32⟩
  | 20 => ⟨S2560x8960, .i32⟩
  | 21 => ⟨S2560x8960, .i1⟩
  | 22 => ⟨S2560x8960, .bf16⟩
  | 23 => ⟨S2560x8960, .bf16⟩
  | 24 => ⟨S2560x8960, .bf16⟩
  | 25 => ⟨S2560x8960, .bf16⟩
  | 26 => ⟨S2560x8960, .bf16⟩
  | 27 => ⟨S2560x8960, .bf16⟩
  | 28 => ⟨S2560x8960, .bf16⟩
  | 29 => ⟨S2560x8960, .bf16⟩
  | 30 => ⟨S2560x8960, .bf16⟩
  | 31 => ⟨S2560x8960, .bf16⟩
  | 32 => ⟨S2560x8960, .bf16⟩
  | 33 => ⟨S2560x8960, .bf16⟩
  | 34 => ⟨S2560x8960, .bf16⟩
  | 35 => ⟨S2560x8960, .bf16⟩
  | 36 => ⟨S2560x8960, .bf16⟩
  | 37 => ⟨S2560x8960, .bf16⟩
  | 38 => ⟨S2560x8960, .bf16⟩
  | 39 => ⟨S2560x8960, .bf16⟩
  | 40 => ⟨S2560x8960, .bf16⟩
  | 41 => ⟨S2560x8960, .bf16⟩
  | 42 => ⟨S2560x8960, .bf16⟩
  | 43 => ⟨S2560x8960, .bf16⟩
  | 44 => ⟨S2560x8960, .bf16⟩
  | 45 => ⟨S2560x8960, .bf16⟩
  | 46 => ⟨S_, .i32⟩
  | 47 => ⟨S2560x8960, .i32⟩
  | 48 => ⟨S2560x8960, .i32⟩
  | 49 => ⟨S_, .i32⟩
  | 50 => ⟨S2560x8960, .i32⟩
  | 51 => ⟨S2560x8960, .i1⟩
  | 52 => ⟨S2560x8960, .bf16⟩
  | 53 => ⟨S2560x8960, .bf16⟩
  | 54 => ⟨S2560x8960, .bf16⟩
  | 55 => ⟨S2560x8960, .bf16⟩
  | 56 => ⟨S_, .i32⟩
  | 57 => ⟨S2560x8960, .i32⟩
  | 58 => ⟨S2560x8960, .i32⟩
  | 59 => ⟨S_, .i32⟩
  | 60 => ⟨S2560x8960, .i32⟩
  | 61 => ⟨S2560x8960, .i1⟩
  | 62 => ⟨S2560x8960, .bf16⟩
  | 63 => ⟨S2560x8960, .bf16⟩
  | 64 => ⟨S_, .i32⟩
  | 65 => ⟨S2560x8960, .i32⟩
  | 66 => ⟨S2560x8960, .i32⟩
  | 67 => ⟨S_, .i32⟩
  | 68 => ⟨S2560x8960, .i32⟩
  | 69 => ⟨S2560x8960, .i1⟩
  | 70 => ⟨S2560x8960, .bf16⟩
  | 71 => ⟨S40x64x8960, .bf16⟩
  | 72 => ⟨S40x1x8960, .bf16⟩
  | 73 => ⟨S40x64x8960, .bf16⟩
  | 74 => ⟨S40x64x8960, .bf16⟩
  | 75 => ⟨S2560x8960, .bf16⟩
  | 76 => ⟨S1x1024x2560, .bf16⟩
  | 77 => ⟨S1x1024x8960, .f32⟩
  | 78 => ⟨S1x1024x2560, .bf16⟩
  | 79 => ⟨S1x1024x8960, .f32⟩
  | 80 => ⟨S1x1024x8960, .f32⟩
  | 81 => ⟨S1x1024x16, .f32⟩
  | 82 => ⟨S1x1024x16, .bf16⟩
  | 83 => ⟨S1x1024x8960, .f32⟩
  | 84 => ⟨S_, .f32⟩
  | 85 => ⟨S1x1024x8960, .f32⟩
  | 86 => ⟨S1x1024x8960, .f32⟩
  | 87 => ⟨S1x1024x8960, .f32⟩
  | 88 => ⟨S1x1024x8960, .bf16⟩
  | _ => ⟨S1x1024x5120, .bf16⟩

abbrev hbmTy (i : Nat) : BufTy := match i / 128 with
  | 0 => hbmTy0_0 i
  | 1 => hbmTy0_1 i
  | _ => ⟨S1x1024x5120, .bf16⟩

abbrev bufTy : (tb : Table) → Fin (tcTables nBuf tb) → BufTy
  | .hbm, ⟨i, _⟩ => hbmTy i
  | _, _ => ⟨S1x1024x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_2 : Ref sig .tc := ⟨.hbm, 50, rfl⟩
abbrev main_v41 : Ref sig .tc := ⟨.hbm, 51, rfl⟩
abbrev main_v42 : Ref sig .tc := ⟨.hbm, 52, rfl⟩
abbrev main_c_3 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_v1 : Ref sig .tc := ⟨.hbm, 57, rfl⟩
abbrev main_v45 : Ref sig .tc := ⟨.hbm, 58, rfl⟩
abbrev main_call1_v0 : Ref sig .tc := ⟨.hbm, 59, rfl⟩
abbrev main_call1_v1 : Ref sig .tc := ⟨.hbm, 60, rfl⟩
abbrev main_v46 : Ref sig .tc := ⟨.hbm, 61, rfl⟩
abbrev main_call2_v0 : Ref sig .tc := ⟨.hbm, 62, rfl⟩
abbrev main_call2_v1 : Ref sig .tc := ⟨.hbm, 63, rfl⟩
abbrev main_v47 : Ref sig .tc := ⟨.hbm, 64, rfl⟩
abbrev main_call3_v0 : Ref sig .tc := ⟨.hbm, 65, rfl⟩
abbrev main_call3_v1 : Ref sig .tc := ⟨.hbm, 66, rfl⟩
abbrev main_v48 : Ref sig .tc := ⟨.hbm, 67, rfl⟩
abbrev main_call4_v0 : Ref sig .tc := ⟨.hbm, 68, rfl⟩
abbrev main_call4_v1 : Ref sig .tc := ⟨.hbm, 69, rfl⟩
abbrev main_v49 : Ref sig .tc := ⟨.hbm, 70, rfl⟩
abbrev main_call5_v0 : Ref sig .tc := ⟨.hbm, 71, rfl⟩
abbrev main_call5_v1 : Ref sig .tc := ⟨.hbm, 72, rfl⟩
abbrev main_v50 : Ref sig .tc := ⟨.hbm, 73, rfl⟩
abbrev main_call6_v0 : Ref sig .tc := ⟨.hbm, 74, rfl⟩
abbrev main_call6_v1 : Ref sig .tc := ⟨.hbm, 75, rfl⟩
abbrev main_v51 : Ref sig .tc := ⟨.hbm, 76, rfl⟩
abbrev main_call7_v0 : Ref sig .tc := ⟨.hbm, 77, rfl⟩
abbrev main_call7_v1 : Ref sig .tc := ⟨.hbm, 78, rfl⟩
abbrev main_v52 : Ref sig .tc := ⟨.hbm, 79, rfl⟩
abbrev main_c_4 : Ref sig .tc := ⟨.hbm, 80, rfl⟩
abbrev main_v53 : Ref sig .tc := ⟨.hbm, 81, rfl⟩
abbrev main_v54 : Ref sig .tc := ⟨.hbm, 82, rfl⟩
abbrev main_c_5 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_6 : Ref sig .tc := ⟨.hbm, 90, rfl⟩
abbrev main_v61 : Ref sig .tc := ⟨.hbm, 91, rfl⟩
abbrev main_v62 : Ref sig .tc := ⟨.hbm, 92, rfl⟩
abbrev main_c_7 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_8 : Ref sig .tc := ⟨.hbm, 98, rfl⟩
abbrev main_v67 : Ref sig .tc := ⟨.hbm, 99, rfl⟩
abbrev main_v68 : Ref sig .tc := ⟨.hbm, 100, rfl⟩
abbrev main_c_9 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_c_10 : Ref sig .tc := ⟨.hbm, 144, rfl⟩
abbrev main_v111 : Ref sig .tc := ⟨.hbm, 145, rfl⟩
abbrev main_v112 : Ref sig .tc := ⟨.hbm, 146, rfl⟩
abbrev main_c_11 : Ref sig .tc := ⟨.hbm, 147, rfl⟩
abbrev main_v113 : Ref sig .tc := ⟨.hbm, 148, rfl⟩
abbrev main_v114 : Ref sig .tc := ⟨.hbm, 149, rfl⟩
abbrev main_call15_v0 : Ref sig .tc := ⟨.hbm, 150, rfl⟩
abbrev main_call15_v1 : Ref sig .tc := ⟨.hbm, 151, rfl⟩
abbrev main_v115 : Ref sig .tc := ⟨.hbm, 152, rfl⟩
abbrev main_call16_v0 : Ref sig .tc := ⟨.hbm, 153, rfl⟩
abbrev main_call16_v1 : Ref sig .tc := ⟨.hbm, 154, rfl⟩
abbrev main_v116 : Ref sig .tc := ⟨.hbm, 155, rfl⟩
abbrev main_call17_v0 : Ref sig .tc := ⟨.hbm, 156, rfl⟩
abbrev main_call17_v1 : Ref sig .tc := ⟨.hbm, 157, rfl⟩
abbrev main_v117 : Ref sig .tc := ⟨.hbm, 158, rfl⟩
abbrev main_call18_v0 : Ref sig .tc := ⟨.hbm, 159, rfl⟩
abbrev main_call18_v1 : Ref sig .tc := ⟨.hbm, 160, rfl⟩
abbrev main_v118 : Ref sig .tc := ⟨.hbm, 161, rfl⟩
abbrev main_call19_v0 : Ref sig .tc := ⟨.hbm, 162, rfl⟩
abbrev main_call19_v1 : Ref sig .tc := ⟨.hbm, 163, rfl⟩
abbrev main_v119 : Ref sig .tc := ⟨.hbm, 164, rfl⟩
abbrev main_call20_v0 : Ref sig .tc := ⟨.hbm, 165, rfl⟩
abbrev main_call20_v1 : Ref sig .tc := ⟨.hbm, 166, rfl⟩
abbrev main_v120 : Ref sig .tc := ⟨.hbm, 167, rfl⟩
abbrev main_call21_v0 : Ref sig .tc := ⟨.hbm, 168, rfl⟩
abbrev main_call21_v1 : Ref sig .tc := ⟨.hbm, 169, rfl⟩
abbrev main_v121 : Ref sig .tc := ⟨.hbm, 170, rfl⟩
abbrev main_call22_v0 : Ref sig .tc := ⟨.hbm, 171, rfl⟩
abbrev main_call22_v1 : Ref sig .tc := ⟨.hbm, 172, rfl⟩
abbrev main_v122 : Ref sig .tc := ⟨.hbm, 173, rfl⟩
abbrev main_c_12 : Ref sig .tc := ⟨.hbm, 174, rfl⟩
abbrev main_v123 : Ref sig .tc := ⟨.hbm, 175, rfl⟩
abbrev main_v124 : Ref sig .tc := ⟨.hbm, 176, rfl⟩
abbrev main_c_13 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_c_14 : Ref sig .tc := ⟨.hbm, 184, rfl⟩
abbrev main_v131 : Ref sig .tc := ⟨.hbm, 185, rfl⟩
abbrev main_v132 : Ref sig .tc := ⟨.hbm, 186, rfl⟩
abbrev main_c_15 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_c_16 : Ref sig .tc := ⟨.hbm, 192, rfl⟩
abbrev main_v137 : Ref sig .tc := ⟨.hbm, 193, rfl⟩
abbrev main_v138 : Ref sig .tc := ⟨.hbm, 194, rfl⟩
abbrev main_c_17 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_cst_18 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩

abbrev nD : Nat := 1
abbrev τ : Topo := Topo.v7x

variable {F : FTy → Type} [FloatOps F]
-- ==== Proof.Nf4.lean ====
/- The NF4 quantiser, and the projection both programs compute, over the extended reals.

   Sixteen levels, one per 4-bit code (`nf4`); a byte of packed weights holds two codes, one per nibble; a code is looked
   up by a tree of fifteen selects over its four bits (`tree_eq_nf4`); the bit tests are integer comparisons after a
   widening of the byte to 16 bits (the kernel) or to 32 bits (the reference), and both read the same bit of the same
   nibble (`test_lo16` … `test_hi32`). `qlora` is the projection as a formula: the base product against the two halves
   of the dequantised weights, plus twice the low-rank product. -/
module

public import Idealize.ShloMosaic.Lib.Pointwise
public import Idealize.ShloMosaic.Lib.IdealHost

@[expose] public section

noncomputable section

namespace Cert.Qlora

open Idealize.ShloMosaic

/-- The bf16 encodings of the sixteen NF4 levels, from code 0 (−1) over code 7 (0) to code 15 (1). -/
def nf4Bits (c : BitVec 4) : BitVec 16 :=
  match c.toNat with
  | 0 => 0xBF80#16 | 1 => 0xBF32#16 | 2 => 0xBF06#16 | 3 => 0xBECA#16
  | 4 => 0xBE92#16 | 5 => 0xBE3D#16 | 6 => 0xBDBA#16 | 7 => 0x0000#16
  | 8 => 0x3DA3#16 | 9 => 0x3E25#16 | 10 => 0x3E7C#16 | 11 => 0x3EAD#16
  | 12 => 0x3EE2#16 | 13 => 0x3F10#16 | 14 => 0x3F39#16 | _ => 0x3F80#16

/-- The NF4 level of a 4-bit code, as an extended real. -/
def nf4 (c : BitVec 4) : EReal := Ideal.ofBits .bf16 (nf4Bits c)

/-- The code in the low nibble of a packed byte: the weight of row `k`. -/
def lo (b : BitVec 8) : BitVec 4 := b.extractLsb' 0 4

/-- The code in the high nibble of a packed byte: the weight of row `2560 + k`. -/
def hi (b : BitVec 8) : BitVec 4 := b.extractLsb' 4 4

/-- Code 7 is the level zero. -/
theorem nf4_seven : Ideal.ofBits .bf16 0x0000#16 = 0 := Ideal.ofBits_zero_bf16

/-- Code 15 is the level one. -/
theorem nf4_fifteen : Ideal.ofBits .bf16 0x3F80#16 = 1 := Ideal.ofBits_one_bf16

/-! ## The bit tests -/

/-- Bit `i` of the low nibble, tested on the byte widened to 16 bits. -/
theorem test_lo16 (b : BitVec 8) :
    IntOp.cmpi .ne (IntOp.andi (IntOp.andi (BitVec.setWidth 16 b) 15#16) 1#16) 0#16 = BitVec.ofBool ((lo b).getLsbD 0)
    ∧ IntOp.cmpi .ne (IntOp.andi (IntOp.andi (BitVec.setWidth 16 b) 15#16) 2#16) 0#16 = BitVec.ofBool ((lo b).getLsbD 1)
    ∧ IntOp.cmpi .ne (IntOp.andi (IntOp.andi (BitVec.setWidth 16 b) 15#16) 4#16) 0#16 = BitVec.ofBool ((lo b).getLsbD 2)
    ∧ IntOp.cmpi .ne (IntOp.andi (IntOp.andi (BitVec.setWidth 16 b) 15#16) 8#16) 0#16 = BitVec.ofBool ((lo b).getLsbD 3) := by
  revert b; decide +kernel

/-- Bit `i` of the low nibble, tested on the byte widened to 32 bits. -/
theorem test_lo32 (b : BitVec 8) :
    IntOp.cmpi .ne (IntOp.andi (IntOp.andi (BitVec.setWidth 32 b) 15#32) 1#32) 0#32 = BitVec.ofBool ((lo b).getLsbD 0)
    ∧ IntOp.cmpi .ne (IntOp.andi (IntOp.andi (BitVec.setWidth 32 b) 15#32) 2#32) 0#32 = BitVec.ofBool ((lo b).getLsbD 1)
    ∧ IntOp.cmpi .ne (IntOp.andi (IntOp.andi (BitVec.setWidth 32 b) 15#32) 4#32) 0#32 = BitVec.ofBool ((lo b).getLsbD 2)
    ∧ IntOp.cmpi .ne (IntOp.andi (IntOp.andi (BitVec.setWidth 32 b) 15#32) 8#32) 0#32 = BitVec.ofBool ((lo b).getLsbD 3) := by
  revert b; decide +kernel

/-- Bit `i` of the high nibble, tested on the byte widened to 16 bits and shifted right by four. -/
theorem test_hi16 (b : BitVec 8) :
    IntOp.cmpi .ne (IntOp.andi (IntOp.shrsi .vector (BitVec.setWidth 16 b) 4#16) 1#16) 0#16 = BitVec.ofBool ((hi b).getLsbD 0)
    ∧ IntOp.cmpi .ne (IntOp.andi (IntOp.shrsi .vector (BitVec.setWidth 16 b) 4#16) 2#16) 0#16 = BitVec.ofBool ((hi b).getLsbD 1)
    ∧ IntOp.cmpi .ne (IntOp.andi (IntOp.shrsi .vector (BitVec.setWidth 16 b) 4#16) 4#16) 0#16 = BitVec.ofBool ((hi b).getLsbD 2)
    ∧ IntOp.cmpi .ne (IntOp.andi (IntOp.shrsi .vector (BitVec.setWidth 16 b) 4#16) 8#16) 0#16 = BitVec.ofBool ((hi b).getLsbD 3) := by
  revert b; decide +kernel

/-- Bit `i` of the high nibble, tested on the byte widened to 32 bits and shifted right by four. -/
theorem test_hi32 (b : BitVec 8) :
    IntOp.cmpi .ne (IntOp.andi (IntOp.shrsi .host (BitVec.setWidth 32 b) 4#32) 1#32) 0#32 = BitVec.ofBool ((hi b).getLsbD 0)
    ∧ IntOp.cmpi .ne (IntOp.andi (IntOp.shrsi .host (BitVec.setWidth 32 b) 4#32) 2#32) 0#32 = BitVec.ofBool ((hi b).getLsbD 1)
    ∧ IntOp.cmpi .ne (IntOp.andi (IntOp.shrsi .host (BitVec.setWidth 32 b) 4#32) 4#32) 0#32 = BitVec.ofBool ((hi b).getLsbD 2)
    ∧ IntOp.cmpi .ne (IntOp.andi (IntOp.shrsi .host (BitVec.setWidth 32 b) 4#32) 8#32) 0#32 = BitVec.ofBool ((hi b).getLsbD 3) := by
  revert b; decide +kernel

/-! ## The select tree -/

/-- The tree over the encodings: fifteen selects on the four bits of a code pick the encoding of its level. -/
theorem tree_bits (c : BitVec 4) :
    Scalar.select (BitVec.ofBool (c.getLsbD 3))
      (Scalar.select (BitVec.ofBool (c.getLsbD 2))
        (Scalar.select (BitVec.ofBool (c.getLsbD 1))
          (Scalar.select (BitVec.ofBool (c.getLsbD 0)) 0x3F80#16 0x3F39#16)
          (Scalar.select (BitVec.ofBool (c.getLsbD 0)) 0x3F10#16 0x3EE2#16))
        (Scalar.select (BitVec.ofBool (c.getLsbD 1))
          (Scalar.select (BitVec.ofBool (c.getLsbD 0)) 0x3EAD#16 0x3E7C#16)
          (Scalar.select (BitVec.ofBool (c.getLsbD 0)) 0x3E25#16 0x3DA3#16)))
      (Scalar.select (BitVec.ofBool (c.getLsbD 2))
        (Scalar.select (BitVec.ofBool (c.getLsbD 1))
          (Scalar.select (BitVec.ofBool (c.getLsbD 0)) 0x0000#16 0xBDBA#16)
          (Scalar.select (BitVec.ofBool (c.getLsbD 0)) 0xBE3D#16 0xBE92#16))
        (Scalar.select (BitVec.ofBool (c.getLsbD 1))
          (Scalar.select (BitVec.ofBool (c.getLsbD 0)) 0xBECA#16 0xBF06#16)
          (Scalar.select (BitVec.ofBool (c.getLsbD 0)) 0xBF32#16 0xBF80#16)))
      = nf4Bits c := by
  revert c; decide +kernel

/-- Selecting between two encodings and reading the choice is selecting between the two values. -/
theorem select_ofBits (t : BitVec 1) (a b : BitVec 16) :
    Scalar.select t (Ideal.ofBits .bf16 a) (Ideal.ofBits .bf16 b) = Ideal.ofBits .bf16 (Scalar.select t a b) := by
  unfold Scalar.select; split <;> rfl

/-- The lookup: a tree of fifteen selects on the four bits of a code, over the sixteen levels, is the level of the code. -/
theorem tree_eq_nf4 (c : BitVec 4) :
    Scalar.select (BitVec.ofBool (c.getLsbD 3))
      (Scalar.select (BitVec.ofBool (c.getLsbD 2))
        (Scalar.select (BitVec.ofBool (c.getLsbD 1))
          (Scalar.select (BitVec.ofBool (c.getLsbD 0)) (1 : EReal) (Ideal.ofBits .bf16 0x3F39#16))
          (Scalar.select (BitVec.ofBool (c.getLsbD 0)) (Ideal.ofBits .bf16 0x3F10#16) (Ideal.ofBits .bf16 0x3EE2#16)))
        (Scalar.select (BitVec.ofBool (c.getLsbD 1))
          (Scalar.select (BitVec.ofBool (c.getLsbD 0)) (Ideal.ofBits .bf16 0x3EAD#16) (Ideal.ofBits .bf16 0x3E7C#16))
          (Scalar.select (BitVec.ofBool (c.getLsbD 0)) (Ideal.ofBits .bf16 0x3E25#16) (Ideal.ofBits .bf16 0x3DA3#16))))
      (Scalar.select (BitVec.ofBool (c.getLsbD 2))
        (Scalar.select (BitVec.ofBool (c.getLsbD 1))
          (Scalar.select (BitVec.ofBool (c.getLsbD 0)) (0 : EReal) (Ideal.ofBits .bf16 0xBDBA#16))
          (Scalar.select (BitVec.ofBool (c.getLsbD 0)) (Ideal.ofBits .bf16 0xBE3D#16) (Ideal.ofBits .bf16 0xBE92#16)))
        (Scalar.select (BitVec.ofBool (c.getLsbD 1))
          (Scalar.select (BitVec.ofBool (c.getLsbD 0)) (Ideal.ofBits .bf16 0xBECA#16) (Ideal.ofBits .bf16 0xBF06#16))
          (Scalar.select (BitVec.ofBool (c.getLsbD 0)) (Ideal.ofBits .bf16 0xBF32#16) (Ideal.ofBits .bf16 0xBF80#16))))
      = nf4 c := by
  rw [← nf4_seven, ← nf4_fifteen]
  simp only [select_ofBits, tree_bits, nf4]

/-- The same tree over a table of sixteen entries, one per code. -/
theorem tree_table_bits (c : BitVec 4) :
    Scalar.select (BitVec.ofBool (c.getLsbD 3))
      (Scalar.select (BitVec.ofBool (c.getLsbD 2))
        (Scalar.select (BitVec.ofBool (c.getLsbD 1))
          (Scalar.select (BitVec.ofBool (c.getLsbD 0)) (nf4Bits (BitVec.ofFin 15)) (nf4Bits (BitVec.ofFin 14)))
          (Scalar.select (BitVec.ofBool (c.getLsbD 0)) (nf4Bits (BitVec.ofFin 13)) (nf4Bits (BitVec.ofFin 12))))
        (Scalar.select (BitVec.ofBool (c.getLsbD 1))
          (Scalar.select (BitVec.ofBool (c.getLsbD 0)) (nf4Bits (BitVec.ofFin 11)) (nf4Bits (BitVec.ofFin 10)))
          (Scalar.select (BitVec.ofBool (c.getLsbD 0)) (nf4Bits (BitVec.ofFin 9)) (nf4Bits (BitVec.ofFin 8)))))
      (Scalar.select (BitVec.ofBool (c.getLsbD 2))
        (Scalar.select (BitVec.ofBool (c.getLsbD 1))
          (Scalar.select (BitVec.ofBool (c.getLsbD 0)) (nf4Bits (BitVec.ofFin 7)) (nf4Bits (BitVec.ofFin 6)))
          (Scalar.select (BitVec.ofBool (c.getLsbD 0)) (nf4Bits (BitVec.ofFin 5)) (nf4Bits (BitVec.ofFin 4))))
        (Scalar.select (BitVec.ofBool (c.getLsbD 1))
          (Scalar.select (BitVec.ofBool (c.getLsbD 0)) (nf4Bits (BitVec.ofFin 3)) (nf4Bits (BitVec.ofFin 2)))
          (Scalar.select (BitVec.ofBool (c.getLsbD 0)) (nf4Bits (BitVec.ofFin 1)) (nf4Bits (BitVec.ofFin 0)))))
      = nf4Bits c := by
  revert c; decide +kernel

/-- The lookup in a table of the sixteen levels is the level of the code. -/
theorem tree_table (c : BitVec 4) :
    Scalar.select (BitVec.ofBool (c.getLsbD 3))
      (Scalar.select (BitVec.ofBool (c.getLsbD 2))
        (Scalar.select (BitVec.ofBool (c.getLsbD 1))
          (Scalar.select (BitVec.ofBool (c.getLsbD 0)) (Ideal.ofBits .bf16 (nf4Bits (BitVec.ofFin 15))) (Ideal.ofBits .bf16 (nf4Bits (BitVec.ofFin 14))))
          (Scalar.select (BitVec.ofBool (c.getLsbD 0)) (Ideal.ofBits .bf16 (nf4Bits (BitVec.ofFin 13))) (Ideal.ofBits .bf16 (nf4Bits (BitVec.ofFin 12)))))
        (Scalar.select (BitVec.ofBool (c.getLsbD 1))
          (Scalar.select (BitVec.ofBool (c.getLsbD 0)) (Ideal.ofBits .bf16 (nf4Bits (BitVec.ofFin 11))) (Ideal.ofBits .bf16 (nf4Bits (BitVec.ofFin 10))))
          (Scalar.select (BitVec.ofBool (c.getLsbD 0)) (Ideal.ofBits .bf16 (nf4Bits (BitVec.ofFin 9))) (Ideal.ofBits .bf16 (nf4Bits (BitVec.ofFin 8))))))
      (Scalar.select (BitVec.ofBool (c.getLsbD 2))
        (Scalar.select (BitVec.ofBool (c.getLsbD 1))
          (Scalar.select (BitVec.ofBool (c.getLsbD 0)) (Ideal.ofBits .bf16 (nf4Bits (BitVec.ofFin 7))) (Ideal.ofBits .bf16 (nf4Bits (BitVec.ofFin 6))))
          (Scalar.select (BitVec.ofBool (c.getLsbD 0)) (Ideal.ofBits .bf16 (nf4Bits (BitVec.ofFin 5))) (Ideal.ofBits .bf16 (nf4Bits (BitVec.ofFin 4)))))
        (Scalar.select (BitVec.ofBool (c.getLsbD 1))
          (Scalar.select (BitVec.ofBool (c.getLsbD 0)) (Ideal.ofBits .bf16 (nf4Bits (BitVec.ofFin 3))) (Ideal.ofBits .bf16 (nf4Bits (BitVec.ofFin 2))))
          (Scalar.select (BitVec.ofBool (c.getLsbD 0)) (Ideal.ofBits .bf16 (nf4Bits (BitVec.ofFin 1))) (Ideal.ofBits .bf16 (nf4Bits (BitVec.ofFin 0))))))
      = nf4 c := by
  simp only [select_ofBits, tree_table_bits, nf4]

/-! ## The projection -/

/-- THE PROJECTION at row `r` and column `n`. The base product: the left half of row `r` of `x` against the low-nibble
    weights and the right half against the high-nibble weights, each weight its level times the scale of its block of 64
    rows. The low-rank product `(x @ a) @ b`, times the literal 2 (`alpha / rank`). -/
def qlora (x : Fin 1024 → Fin 5120 → EReal) (w : Fin 2560 → Fin 8960 → BitVec 8) (s : Fin 80 → Fin 8960 → EReal)
    (a : Fin 5120 → Fin 16 → EReal) (b : Fin 16 → Fin 8960 → EReal) (r : Fin 1024) (n : Fin 8960) : EReal :=
  (∑ k : Fin 2560, x r ⟨k, by omega⟩ * (nf4 (lo (w k n)) * s ⟨k / 64, by omega⟩ n))
    + (∑ k : Fin 2560, x r ⟨2560 + k, by omega⟩ * (nf4 (hi (w k n)) * s ⟨40 + k / 64, by omega⟩ n))
    + Ideal.ofBits .f32 0x40000000#32 * ∑ q : Fin 16, (∑ d : Fin 5120, x r d * a d q) * b q n

end Cert.Qlora

end
-- ==== Proof.KernelBlock.lean ====
/- What one grid point of the kernel computes, as a value.

   A grid point sees the whole `x`, one block of 256 columns of the packed weights, of the block scales and of `lora_b`,
   and the carried product `t = x @ lora_a`. Its output block (`block`) is the product of `x` with the two dequantised
   weight halves (`wLo`, `wHi`) plus twice `t @ lora_b`. `block_apply` reads it at one element as sums over the extended
   reals; `out_A`, `out_B` and `sout_A` say that the two cases of the body (the first point, which also computes `t`, and
   every other point) leave these values in the output's buffer and in the carried scratch. -/
module

public import proofs.«01_k».proof.Proof.Gen.KernelIdeal.Frame
public import proofs.«01_k».proof.Proof.Nf4
public import Idealize.ShloMosaic.Lib.Pipeline.ValueKit
public import Idealize.ShloMosaic.Lib.Pointwise

@[expose] public section

set_option maxRecDepth 16384

noncomputable section

namespace Cert.KernelIdeal.Block

open Idealize.ShloMosaic Idealize.ShloMosaic.TcCoe Cert.KernelIdeal Cert.KernelIdeal.Gen Cert.Qlora

section Values

variable {F : FTy → Type} [FloatOps F]

/-- The dequantised weights of the rows `0 … 2559` of one column block: the low nibbles' levels times the scales 0 … 39. -/
abbrev wLo (w : Vec F S2560x256 .i8) (s : Vec F S80x256 .f32) : FVec F S2560x256 .bf16 :=
  k0_pay15 (k0_pay5 w) (k0_pay6 s) (k0_pay7 w) (k0_pay8 w) (k0_pay9 w) (k0_pay10 w) (k0_pay11 w) (k0_pay12 w)
    (k0_pay13 w) (k0_pay14 w)

/-- The dequantised weights of the rows `2560 … 5119` of one column block: the high nibbles' levels times the scales 40 … 79. -/
abbrev wHi (w : Vec F S2560x256 .i8) (s : Vec F S80x256 .f32) : FVec F S2560x256 .bf16 :=
  k0_pay22 (k0_pay16 (k0_pay3 w)) (k0_pay17 (k0_pay4 s)) (k0_pay18 (k0_pay3 w)) (k0_pay19 (k0_pay3 w))
    (k0_pay20 (k0_pay3 w)) (k0_pay21 (k0_pay3 w))

/-- One output block: `x`'s left half times the low weights, plus its right half times the high weights, plus twice the
    low-rank product of the carried `t` with the block of `lora_b`. -/
abbrev block (x : Vec F S1024x5120 .bf16) (w : Vec F S2560x256 .i8) (s : Vec F S80x256 .f32) (b : Vec F S16x256 .bf16)
    (t : Vec F S1024x16 .bf16) : FVec F S1024x256 .bf16 :=
  k0_pay1 (wLo w s) (wHi w s)
    (k0_pay23 (View.ld x (Rect.unit ![0, 0] ![1024, 2560] inb_S1024x5120_S1024x2560_0_0)))
    (constant S1024x256 .f32 0x00000000#32)
    (View.ld x (Rect.unit ![0, 2560] ![1024, 2560] inb_S1024x5120_S1024x2560_0_2560)) t b

end Values

/-! ## The values at one element, over the extended reals -/

/-- A low weight is the level of the byte's low nibble times the scale of its block of 64 rows. -/
theorem wLo_apply (w : Vec Ideal S2560x256 .i8) (s : Vec Ideal S80x256 .f32) (k : Fin 2560) (n : Fin 256) :
    wLo (F := Ideal) w s (ix2 k n) = nf4 (lo (w (ix2 k n))) * s (ix2 ⟨k / 64, by omega⟩ n) := by
  pointwise [k0_pay15, k0_pay14, k0_pay13, k0_pay12, k0_pay11, k0_pay10, k0_pay9, k0_pay8, k0_pay7, k0_pay6, k0_pay5,
    k0_pay4, k0_pay3]
  obtain ⟨e0, e1, e2, e3⟩ := test_lo16 (w (ix2 k n))
  simp only [e0, e1, e2, e3, tree_eq_nf4]

/-- A high weight is the level of the byte's high nibble times the scale of its block of 64 rows, 40 blocks further on. -/
theorem wHi_apply (w : Vec Ideal S2560x256 .i8) (s : Vec Ideal S80x256 .f32) (k : Fin 2560) (n : Fin 256) :
    wHi (F := Ideal) w s (ix2 k n) = nf4 (hi (w (ix2 k n))) * s (ix2 ⟨40 + k / 64, by omega⟩ n) := by
  pointwise [k0_pay22, k0_pay21, k0_pay20, k0_pay19, k0_pay18, k0_pay17, k0_pay16, k0_pay4, k0_pay3]
  obtain ⟨e0, e1, e2, e3⟩ := test_hi16 (w (ix2 k n))
  simp only [e0, e1, e2, e3, tree_eq_nf4]

/-- The carried product at one element: `t[r, q] = Σ_d x[r, d] · a[d, q]`. -/
theorem t_apply (x : Vec Ideal S1024x5120 .bf16) (a : Vec Ideal S5120x16 .bf16) (r : Fin 1024) (q : Fin 16) :
    k0_pay2 (F := Ideal) x a (ix2 r q) = ∑ d : Fin 5120, x (ix2 r d) * a (ix2 d q) := by
  pointwise [k0_pay2]

/-- One element of the output block, as sums over the extended reals. -/
theorem block_apply (x : Vec Ideal S1024x5120 .bf16) (w : Vec Ideal S2560x256 .i8) (s : Vec Ideal S80x256 .f32)
    (b : Vec Ideal S16x256 .bf16) (t : Vec Ideal S1024x16 .bf16) (r : Fin 1024) (n : Fin 256) :
    block (F := Ideal) x w s b t (ix2 r n)
      = (∑ k : Fin 2560, x (ix2 r ⟨k, by omega⟩) * (nf4 (lo (w (ix2 k n))) * s (ix2 ⟨k / 64, by omega⟩ n)))
        + (∑ k : Fin 2560, x (ix2 r ⟨2560 + k, by omega⟩) * (nf4 (hi (w (ix2 k n))) * s (ix2 ⟨40 + k / 64, by omega⟩ n)))
        + Ideal.ofBits .f32 0x40000000#32 * ∑ q : Fin 16, t (ix2 r q) * b (ix2 q n) := by
  unfold block
  generalize hl : wLo (F := Ideal) w s = wl
  generalize hh : wHi (F := Ideal) w s = wh
  pointwise [k0_pay1, k0_pay23]
  subst hl hh
  simp only [wLo_apply, wHi_apply]

/-! ## The two cases of the body -/

theorem hz2 : (![0, 0] : Fin 2 → Nat) = fun _ => 0 := funext fun a => by fin_cases a <;> rfl

section Cases

variable {F : FTy → Type} [FloatOps F]

/-- At the first grid point the scratch is left at `x @ lora_a`. -/
theorem sout_A (c : Dev nD) (i : grid0.Coords) (arg1 : Memref sig .tc .vmem S1024x5120 .bf16) (harg1 : arg1.IsWhole) (arg2 : Memref sig .tc .vmem S2560x256 .i8) (harg2 : arg2.IsWhole) (arg3 : Memref sig .tc .vmem S80x256 .f32) (harg3 : arg3.IsWhole) (arg4 : Memref sig .tc .vmem S5120x16 .bf16) (harg4 : arg4.IsWhole) (arg5 : Memref sig .tc .vmem S16x256 .bf16) (harg5 : arg5.IsWhole) (arg6 : Memref sig .tc .vmem S1024x256 .bf16) (harg6 : arg6.IsWhole) (arg7 : Memref sig .tc .vmem S1024x16 .bf16) (harg7 : arg7.IsWhole) (hc0 : cond0_0 i)
    (x0 : Vec F S1024x5120 .bf16) (x1 : Vec F S2560x256 .i8) (x2 : Vec F S80x256 .f32) (x3 : Vec F S5120x16 .bf16) (x4 : Vec F S16x256 .bf16) :
    sout0_A_0 c i arg1 harg1 arg2 harg2 arg3 harg3 arg4 harg4 arg5 harg5 arg6 harg6 arg7 harg7 hc0 x0 x1 x2 x3 x4 = k0_pay2 x0 x3 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz2]
  simp only [View.readAt_eq_ld, harg1.read_unread, harg2.read_unread, harg3.read_unread, harg4.read_unread, harg5.read_unread,
    harg7.read_unread, View.ld_unit_zero (S := S1024x5120) hz2, View.ld_unit_zero (S := S5120x16) hz2,
    View.ld_unit_zero (S := S1024x16) hz2, View.ld_unit_zero (S := S16x256) hz2, View.ld_unit_zero (S := S2560x256) hz2,
    View.ld_unit_zero (S := S80x256) hz2, View.readCov_unit_zero (S := S1024x16) _ hz2, shapeCast_self]

/-- At the first grid point the output's buffer is left at the block computed with the fresh `x @ lora_a`. -/
theorem out_A (c : Dev nD) (i : grid0.Coords) (arg1 : Memref sig .tc .vmem S1024x5120 .bf16) (harg1 : arg1.IsWhole) (arg2 : Memref sig .tc .vmem S2560x256 .i8) (harg2 : arg2.IsWhole) (arg3 : Memref sig .tc .vmem S80x256 .f32) (harg3 : arg3.IsWhole) (arg4 : Memref sig .tc .vmem S5120x16 .bf16) (harg4 : arg4.IsWhole) (arg5 : Memref sig .tc .vmem S16x256 .bf16) (harg5 : arg5.IsWhole) (arg6 : Memref sig .tc .vmem S1024x256 .bf16) (harg6 : arg6.IsWhole) (arg7 : Memref sig .tc .vmem S1024x16 .bf16) (harg7 : arg7.IsWhole) (hc0 : cond0_0 i)
    (x0 : Vec F S1024x5120 .bf16) (x1 : Vec F S2560x256 .i8) (x2 : Vec F S80x256 .f32) (x3 : Vec F S5120x16 .bf16) (x4 : Vec F S16x256 .bf16) :
    out0_A_5 c i arg1 harg1 arg2 harg2 arg3 harg3 arg4 harg4 arg5 harg5 arg6 harg6 arg7 harg7 hc0 x0 x1 x2 x3 x4 = block x0 x1 x2 x4 (k0_pay2 x0 x3) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  rw [View.canon_unit_zero hz2]
  sl_unfold_words
  simp only [View.readAt_eq_ld, harg1.read_unread, harg2.read_unread, harg3.read_unread, harg4.read_unread, harg5.read_unread,
    harg7.read_unread, View.ld_unit_zero (S := S1024x5120) hz2, View.ld_unit_zero (S := S5120x16) hz2,
    View.ld_unit_zero (S := S1024x16) hz2, View.ld_unit_zero (S := S16x256) hz2, View.ld_unit_zero (S := S2560x256) hz2,
    View.ld_unit_zero (S := S80x256) hz2, View.readCov_unit_zero (S := S1024x16) _ hz2, shapeCast_self]

/-- At every other grid point the output's buffer is left at the block computed with the carried scratch. -/
theorem out_B (c : Dev nD) (i : grid0.Coords) (arg1 : Memref sig .tc .vmem S1024x5120 .bf16) (harg1 : arg1.IsWhole) (arg2 : Memref sig .tc .vmem S2560x256 .i8) (harg2 : arg2.IsWhole) (arg3 : Memref sig .tc .vmem S80x256 .f32) (harg3 : arg3.IsWhole) (arg4 : Memref sig .tc .vmem S5120x16 .bf16) (harg4 : arg4.IsWhole) (arg5 : Memref sig .tc .vmem S16x256 .bf16) (harg5 : arg5.IsWhole) (arg6 : Memref sig .tc .vmem S1024x256 .bf16) (harg6 : arg6.IsWhole) (arg7 : Memref sig .tc .vmem S1024x16 .bf16) (harg7 : arg7.IsWhole) (hc0 : ¬cond0_0 i)
    (x0 : Vec F S1024x5120 .bf16) (x1 : Vec F S2560x256 .i8) (x2 : Vec F S80x256 .f32) (x3 : Vec F S5120x16 .bf16) (x4 : Vec F S16x256 .bf16) (xs0 : Vec F S1024x16 .bf16) :
    out0_B_5 c i arg1 harg1 arg2 harg2 arg3 harg3 arg4 harg4 arg5 harg5 arg6 harg6 arg7 harg7 hc0 x0 x1 x2 x3 x4 xs0 = block x0 x1 x2 x4 xs0 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  rw [View.canon_unit_zero hz2]
  sl_unfold_words
  simp only [View.readAt_eq_ld, harg1.read_unread, harg2.read_unread, harg3.read_unread, harg4.read_unread, harg5.read_unread,
    harg7.read_unread, View.ld_unit_zero (S := S1024x5120) hz2, View.ld_unit_zero (S := S5120x16) hz2,
    View.ld_unit_zero (S := S1024x16) hz2, View.ld_unit_zero (S := S16x256) hz2, View.ld_unit_zero (S := S2560x256) hz2,
    View.ld_unit_zero (S := S80x256) hz2, View.readCov_unit_zero (S := S1024x16) _ hz2, shapeCast_self]

end Cases

end Cert.KernelIdeal.Block

end
-- ==== Proof.KernelRun.lean ====
/- What the kernel's result holds after a run, over the extended reals.

   The scratch holds `x @ lora_a` after every grid point (`scratch_eq`, by induction on the point), so every point leaves
   in the output's buffer the block of its own columns computed with it (`outs_eq`); read at one element this is the
   projection at that row and column (`point`). The blocks tile the output array, which so ends holding the projection
   everywhere (`final`), and the trailing reshape gives the result its leading axis (`run`). -/
module

public import proofs.«01_k».proof.Proof.KernelBlock
public import Idealize.ShloMosaic.Lib.Claim

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Block Cert.Qlora

variable (m : (ℓ : Loc nD τ sig) → Buf (Elt Ideal) ℓ) (ρ : Dev nD → PrngReg)

/-- The projection of the five arguments in memory `m` on core `c`, at row `r` and column `n`. -/
def proj (c : Dev nD) (r : Fin 1024) (n : Fin 8960) : EReal :=
  qlora (fun r d => m ((c : Thread nD τ).loc main_arg0) (ix3 0 r d)) (fun k n => m ((c : Thread nD τ).loc main_arg1) (ix2 k n))
    (fun g n => m ((c : Thread nD τ).loc main_arg2) (ix2 g n)) (fun d q => m ((c : Thread nD τ).loc main_arg3) (ix2 d q))
    (fun q n => m ((c : Thread nD τ).loc main_arg4) (ix2 q n)) r n

/-- The first grid point. -/
def p0 : Fin cfg0.N := ⟨0, by decide⟩

/-- The product `x @ lora_a` as the first grid point computes it. -/
abbrev T (c : Dev nD) : Vec Ideal S1024x16 .bf16 := k0_pay2 (F := Ideal) (iblk m c 0 p0) (iblk m c 3 p0)

/-- After every grid point the carried scratch holds `x @ lora_a`. -/
theorem scratch_eq (c : Dev nD) (n : ℕ) (h : n < cfg0.N) : (outsAt0 m c n h).2 = T m c := by
  induction n with
  | zero =>
    have e := outsAt0_A m c p0 rfl
    rw [sout_A] at e
    exact congrArg Prod.snd e
  | succ n ih =>
    have hN : cfg0.N = 35 := N_0
    have hB : ¬(⟨n + 1, h⟩ : Fin cfg0.N).val % 35 = 0 := by dsimp only; omega
    have e := outsAt0_B m c ⟨n + 1, h⟩ hB
    exact (congrArg Prod.snd e).trans (ih (Nat.lt_of_succ_lt h))

/-- Every grid point leaves in the output's buffer the block of its columns. -/
theorem outs_eq (c : Dev nD) (t : Fin cfg0.N) :
    (outsAt0 m c t.val t.isLt).1 = block (F := Ideal) (iblk m c 0 t) (iblk m c 1 t) (iblk m c 2 t) (iblk m c 4 t) (T m c) := by
  by_cases h : t.val % 35 = 0
  · have hN : cfg0.N = 35 := N_0
    obtain rfl : t = p0 := Fin.ext (by have := t.isLt; show t.val = 0; omega)
    have e := outsAt0_A m c p0 h
    rw [out_A] at e
    exact congrArg Prod.fst e
  · have e := outsAt0_B m c t h
    rw [out_B, scratch_eq m c] at e
    exact congrArg Prod.fst e

/-- Where each window's block lies at each grid point: `x` and `lora_a` whole, the others the point's 256 columns. -/
theorem idx : ∀ t : Fin cfg0.N, win0_0.index t = ![0, 0] ∧ win0_1.index t = ![0, t.val] ∧ win0_2.index t = ![0, t.val]
    ∧ win0_3.index t = ![0, 0] ∧ win0_4.index t = ![0, t.val] ∧ win0_5.index t = ![0, t.val] :=
  (by decide +kernel : ∀ t : Fin grid0.N, _)

/-- What the region finds in the reshaped `x`: the argument's one page. -/
theorem V_x (c : Dev nD) (r : Fin 1024) (d : Fin 5120) :
    V m c main_v0 (ix2 r d) = m ((c : Thread nD τ).loc main_arg0) (ix3 0 r d) := by
  show StableHlo.after (List.flatten [hostOps0]) (fun b => m (c, b)) (Proc.devRef .tc main_v0) (ix2 r d) = _
  simp only [List.flatten_cons, List.flatten_nil, List.append_nil]
  after_results
  pointwise []

/-- Every grid point's block of `x` is the whole of `x`. -/
theorem iblk_x (c : Dev nD) (t : Fin cfg0.N) (r : Fin 1024) (d : Fin 5120) :
    iblk m c 0 t (ix2 r d) = m ((c : Thread nD τ).loc main_arg0) (ix3 0 r d) := by
  refine Eq.trans ?_ (V_x m c r d)
  blk_ext [iblk, idx t]

/-- A grid point's block of the packed weights is its 256 columns. -/
theorem iblk_w (c : Dev nD) (t : Fin cfg0.N) (k : Fin 2560) (n : Fin 256) (h : t.val * 256 + n < 8960) :
    iblk m c 1 t (ix2 k n) = m ((c : Thread nD τ).loc main_arg1) (ix2 k ⟨t.val * 256 + n, h⟩) := by
  refine Eq.trans ?_ (congrFun (V_main_arg1 m c) _)
  blk_ext [iblk, idx t]

/-- A grid point's block of the scales is its 256 columns. -/
theorem iblk_s (c : Dev nD) (t : Fin cfg0.N) (k : Fin 80) (n : Fin 256) (h : t.val * 256 + n < 8960) :
    iblk m c 2 t (ix2 k n) = m ((c : Thread nD τ).loc main_arg2) (ix2 k ⟨t.val * 256 + n, h⟩) := by
  refine Eq.trans ?_ (congrFun (V_main_arg2 m c) _)
  blk_ext [iblk, idx t]

/-- Every grid point's block of `lora_a` is the whole of `lora_a`. -/
theorem iblk_a (c : Dev nD) (t : Fin cfg0.N) (d : Fin 5120) (q : Fin 16) :
    iblk m c 3 t (ix2 d q) = m ((c : Thread nD τ).loc main_arg3) (ix2 d q) := by
  refine Eq.trans ?_ (congrFun (V_main_arg3 m c) _)
  blk_ext [iblk, idx t]

/-- A grid point's block of `lora_b` is its 256 columns. -/
theorem iblk_b (c : Dev nD) (t : Fin cfg0.N) (q : Fin 16) (n : Fin 256) (h : t.val * 256 + n < 8960) :
    iblk m c 4 t (ix2 q n) = m ((c : Thread nD τ).loc main_arg4) (ix2 q ⟨t.val * 256 + n, h⟩) := by
  refine Eq.trans ?_ (congrFun (V_main_arg4 m c) _)
  blk_ext [iblk, idx t]

/-- One element of the block grid point `t` computes is the projection at row `r` and column `256 t + n`. -/
theorem point (c : Dev nD) (t : Fin cfg0.N) (r : Fin 1024) (n : Fin 256) (h : t.val * 256 + n < 8960) :
    block (F := Ideal) (iblk m c 0 t) (iblk m c 1 t) (iblk m c 2 t) (iblk m c 4 t) (T m c) (ix2 r n)
      = proj m c r ⟨t.val * 256 + n, h⟩ := by
  rw [block_apply]
  simp only [t_apply, iblk_x, iblk_a, iblk_w m c t _ n h, iblk_s m c t _ n h, iblk_b m c t _ n h]
  rfl

/-- The same at an index `y` of the block and the index `j` of the array it lands at. -/
theorem point_at (c : Dev nD) (t : Fin cfg0.N) (y : S1024x256.Idx) (j : S1024x8960.Idx)
    (h0 : (j 0 : ℕ) = y 0) (h1 : (j 1 : ℕ) = t.val * 256 + y 1) :
    block (F := Ideal) (iblk m c 0 t) (iblk m c 1 t) (iblk m c 2 t) (iblk m c 4 t) (T m c) y = proj m c (j 0) (j 1) := by
  have ht : t.val < 35 := lt_of_lt_of_eq t.isLt N_0
  idx_vars y
  idx_vars j
  have hy : (y1 : ℕ) < 256 := y1.isLt
  have e0 : j0 = y0 := Fin.ext h0
  have hb : t.val * 256 + (y1 : ℕ) < 8960 := by clear h1; omega
  have e1 : j1 = ⟨t.val * 256 + y1, hb⟩ := Fin.ext h1
  subst e0 e1
  exact point m c t j0 y1 (by omega)

/-- The output array after the run holds the projection at every row and column: its 35 blocks tile it. -/
theorem final (c : Dev nD) : (dats m 0 c).arrAt 5 (cfgs 0).N
    = fun j : S1024x8960.Idx => proj m c (j 0) (j 1) := by
  refine (dats m 0 c).arrAt_eq_of_covers 5 _ (by decide +kernel) fun t hf y => ?_
  blk_simp
  rw [after0_5, outs_eq]
  exact point_at m c t y _ (by blk_simp [idx t] <;> try omega) (by blk_simp [idx t] <;> try omega)

/-- The result buffer after the run: the output array with a leading axis of length one. -/
theorem tail_eq (c : Dev nD) : Pipeline.afterTail₀ cfgs (dats m) 0 (V0 m) [hostOps1] c main_v2
    = fun j : S1x1024x8960.Idx => proj m c (j 1) (j 2) := by
  unfold Pipeline.afterTail₀
  simp only [List.flatten_cons, List.flatten_nil, List.append_nil]
  after_region_results
  erw [Pipeline.withArrays_arr (cfgs 0).spec launch0.win.arr_inj c (V0 m c) (fun w => (dats m 0 c).arrAt w (cfgs 0).N) 5]
  rw [final]
  funext j
  show shapeCast S1x1024x8960 (fun j : S1024x8960.Idx => proj m c (j 0) (j 1)) shapeCasts_S1024x8960_S1x1024x8960 j = _
  idx_vars j
  pointwise []

/-- THE RUN: every fair run ends with the result at the projection of the arguments, and the arguments unchanged. -/
theorem run : θ_run defs (onTc (τ := τ) (main (F := Ideal))) ⟨m, fun _ => 0, ρ⟩ fun r => ∀ c : Dev nD,
      r.2.mem ((c.tc : Thread nD τ).loc main_v2) = (fun j : S1x1024x8960.Idx => proj m c (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).2 main_v2 (Pipeline.mem_restRefs_of main_v2 (by decide) (by decide))).trans (tail_eq m c),
      h.2 c⟩)
    (θ_run_and (run_main m ρ) (unchanged m ρ))

end Cert.KernelIdeal.Value

end
-- ==== Proof.ReferenceValue.lean ====
/- What the reference's result holds after a run, over the extended reals: the projection of its arguments.

   The reference decodes the whole matrix at once, from the codes widened to 32 bits, and takes the levels from a table
   of sixteen entries (`cst_entry`, `cst_0_entry`); read at one element its result is the same projection formula as the kernel's
   (`result_apply`, `run`). -/
module

public import proofs.«01_k».proof.Proof.Gen.ReferenceIdeal.Run
public import proofs.«01_k».proof.Proof.Nf4
public import Idealize.ShloMosaic.Lib.Pointwise
public import Idealize.ShloMosaic.Lib.Tactic.CleanTypes
public import Idealize.ShloMosaic.Lib.Quiescent

@[expose] public section

set_option maxRecDepth 16384

noncomputable section

namespace Cert.ReferenceIdeal.Proj

open Idealize.ShloMosaic Idealize.ShloMosaic.TcCoe Idealize.ShloMosaic.StableHlo Idealize.SL.Sem
open Cert.ReferenceIdeal Cert.ReferenceIdeal.Gen Cert.ReferenceIdeal.Value Cert.Qlora

variable (V0 : Valuation τ sig (Elt Ideal))

/-- The entries of the table the low nibbles are looked up in. -/
theorem cst_entry (i : Fin 16) : res_main_cst V0 (ix1 i) = Ideal.ofBits .bf16 (nf4Bits (BitVec.ofFin i)) := by
  show Ideal.ofBits .bf16 (lit0 _) = _
  congr 1
  revert i
  decide +kernel

/-- The entries of the table the high nibbles are looked up in: the same table. -/
theorem cst_0_entry (i : Fin 16) : res_main_cst_0 V0 (ix1 i) = Ideal.ofBits .bf16 (nf4Bits (BitVec.ofFin i)) := by
  show Ideal.ofBits .bf16 (lit1 _) = _
  congr 1
  revert i
  decide +kernel

/-- The projection of the five argument buffers, at row `r` and column `n`. -/
def proj (r : Fin 1024) (n : Fin 8960) : EReal :=
  qlora (fun r d => V0 (Proc.devRef .tc main_arg0) (ix3 0 r d)) (fun k n => V0 (Proc.devRef .tc main_arg1) (ix2 k n))
    (fun g n => V0 (Proc.devRef .tc main_arg2) (ix2 g n)) (fun d q => V0 (Proc.devRef .tc main_arg3) (ix2 d q))
    (fun q n => V0 (Proc.devRef .tc main_arg4) (ix2 q n)) r n

/-- The result at one element, the final cast included, is the projection. -/
theorem result_apply (r : Fin 1024) (n : Fin 8960) :
    truncf (F := Ideal) .bf16 (addf (res_main_v151 V0)
        (mulf (broadcastInDim S1x1024x8960 ![] bcast_S_S1x1024x8960 (constant S_ .f32 0x40000000#32))
          (Host.dotGeneral (φ₁ := .bf16) (φ₂ := .bf16) dot_S1x1024x16_S16x8960_S1x1024x8960_2_0_01_1_n_n none
            (truncf .bf16 (Host.dotGeneral (φ₁ := .bf16) (φ₂ := .bf16)
              dot_S1x1024x5120_S5120x16_S1x1024x16_2_0_01_1_n_n none (V0 (Proc.devRef .tc main_arg0))
              (V0 (Proc.devRef .tc main_arg3))) bitsLt_bf16_f32)
            (V0 (Proc.devRef .tc main_arg4))))) bitsLt_bf16_f32 (ix3 0 r n)
      = proj V0 r n := by
  unfold res_main_v151
  clean_types
  pointwise [res_main_v44, res_main_v56, res_main_v64, res_main_v114, res_main_v126, res_main_v134, res_main_v4,
    res_main_v6, res_main_v2, res_main_v1]
  simp only [cst_entry, cst_0_entry, fun k n => (test_lo32 (V0 (Proc.devRef .tc main_arg1) (ix2 k n))).1,
    fun k n => (test_lo32 (V0 (Proc.devRef .tc main_arg1) (ix2 k n))).2.1,
    fun k n => (test_lo32 (V0 (Proc.devRef .tc main_arg1) (ix2 k n))).2.2.1,
    fun k n => (test_lo32 (V0 (Proc.devRef .tc main_arg1) (ix2 k n))).2.2.2,
    fun k n => (test_hi32 (V0 (Proc.devRef .tc main_arg1) (ix2 k n))).1,
    fun k n => (test_hi32 (V0 (Proc.devRef .tc main_arg1) (ix2 k n))).2.1,
    fun k n => (test_hi32 (V0 (Proc.devRef .tc main_arg1) (ix2 k n))).2.2.1,
    fun k n => (test_hi32 (V0 (Proc.devRef .tc main_arg1) (ix2 k n))).2.2.2, tree_table]
  rfl

/-- THE RUN: every fair run ends with the result at the projection of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v158)
        = (fun j : S1x1024x8960.Idx => proj (launchContents m c) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      funext j
      idx_vars j
      obtain rfl : j0 = 0 := Subsingleton.elim _ _
      exact result_apply (launchContents m c) j1 j2), (h c).2⟩)
    (Value.run (F := Ideal) m ρ)

/-- Every fair run ends with the arguments unchanged and every counter at zero: the program has no semaphore. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, sem_eq_zero_of_no_sems (by decide) r.2⟩) (run m ρ)

end Cert.ReferenceIdeal.Proj

end
-- ==== Proof.Equation.lean ====
/- The equation of the two programs' results, over the extended reals: from memories that agree on the five arguments
   both runs end with the same projection in their result buffers (`proj_eq`, `algebraic`). -/
module

public import proofs.«01_k».proof.Defs
public import proofs.«01_k».proof.Proof.KernelRun
public import proofs.«01_k».proof.Proof.ReferenceValue

@[expose] public section

noncomputable section

namespace Cert.Equation

open Idealize.ShloMosaic Idealize.ShloMosaic.TcCoe Idealize.ShloMosaic.StableHlo Idealize.SL.Sem

/-- The reference's projection and the kernel's are one number at every row and column, when the arguments agree. -/
theorem proj_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3))
    (h4 : m' ((c.tc : Thread ReferenceIdeal.nD ReferenceIdeal.τ).loc ReferenceIdeal.main_arg4)
      = m ((c.tc : Thread KernelIdeal.nD KernelIdeal.τ).loc KernelIdeal.main_arg4)) (r : Fin 1024) (n : Fin 8960) :
    ReferenceIdeal.Proj.proj (launchContents m' c) r n = KernelIdeal.Value.proj m c r n := by
  show Qlora.qlora (fun r d => m' ((c.tc : Thread ReferenceIdeal.nD ReferenceIdeal.τ).loc ReferenceIdeal.main_arg0) (ix3 0 r d))
    (fun k n => m' ((c.tc : Thread ReferenceIdeal.nD ReferenceIdeal.τ).loc ReferenceIdeal.main_arg1) (ix2 k n))
    (fun g n => m' ((c.tc : Thread ReferenceIdeal.nD ReferenceIdeal.τ).loc ReferenceIdeal.main_arg2) (ix2 g n))
    (fun d q => m' ((c.tc : Thread ReferenceIdeal.nD ReferenceIdeal.τ).loc ReferenceIdeal.main_arg3) (ix2 d q))
    (fun q n => m' ((c.tc : Thread ReferenceIdeal.nD ReferenceIdeal.τ).loc ReferenceIdeal.main_arg4) (ix2 q n)) r n = _
  rw [h0, h1, h2, h3, h4]
  rfl

/-- Both programs run, and end with the same result: the projection of the arguments. -/
theorem algebraic : algebraic_KernelIdeal_ReferenceIdeal := by
  intro m g m' g' _ h
  refine ⟨fun c => (fun j : KernelIdeal.S1x1024x8960.Idx => KernelIdeal.Value.proj m c (j 1) (j 2)),
    KernelIdeal.Value.run m g, ?_⟩
  refine (θ_run _ _ _).mono (fun r hr c => ⟨(hr c).1.trans ?_, (hr c).2⟩) (ReferenceIdeal.Proj.run m' g')
  funext j
  exact proj_eq m m' c (h c).1 (h c).2.1 (h c).2.2.1 (h c).2.2.2.1 (h c).2.2.2.2 (j 1) (j 2)

end Cert.Equation

end
-- ==== Proof.lean ====
/- The five claims, assembled: the kernel, its reading over the extended reals and the reference each run and leave their
   arguments and counters as they were; that reading rewrote no operation; and the kernel and the reference end with the
   same result over the extended reals (`Equation.lean`). -/
module

public import proofs.«01_k».proof.Defs
public import proofs.«01_k».proof.Proof.Gen.Kernel.Frame
public import proofs.«01_k».proof.Proof.Gen.KernelIdeal.Frame
public import proofs.«01_k».proof.Proof.Equation

@[expose] public section

noncomputable section

namespace Cert.Proof

open Idealize.ShloMosaic Idealize.SL.Sem

/-- Everything this certificate claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Proj.frame m g, trivial, Cert.Equation.algebraic⟩

end Cert.Proof

end
